-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_in_range [hPre_bias_in_range : Cert.Pre_bias_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_bias_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_in_range [hPre_bias_in_range : Cert.Pre_bias_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bias_in_range [hKernelIdeal : Cert.KernelIdeal.Facts] [hPre_bias_in_range : Cert.Pre_bias_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bias_in_range [hReferenceIdeal : Cert.ReferenceIdeal.Facts] [hPre_bias_in_range : Cert.Pre_bias_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bias_in_range [hKernelIdeal : Cert.KernelIdeal.Facts] [hReferenceIdeal : Cert.ReferenceIdeal.Facts] [hPre_bias_in_range : Cert.Pre_bias_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bias_in_range : Cert.Pre_bias_in_range.Facts),
    quiescent_Kernel (hKernel := hKernel)
    ∧ quiescent_KernelIdeal (hKernelIdeal := hKernelIdeal)
    ∧ quiescent_KernelIdeal_pre_bias_in_range (hKernelIdeal := hKernelIdeal) (hPre_bias_in_range := hPre_bias_in_range)
    ∧ quiescent_ReferenceIdeal (hReferenceIdeal := hReferenceIdeal)
    ∧ quiescent_ReferenceIdeal_pre_bias_in_range (hReferenceIdeal := hReferenceIdeal) (hPre_bias_in_range := hPre_bias_in_range)
    ∧ preserves_Kernel_KernelIdeal
    ∧ algebraic_KernelIdeal_ReferenceIdeal_pre_bias_in_range (hKernelIdeal := hKernelIdeal) (hReferenceIdeal := hReferenceIdeal) (hPre_bias_in_range := hPre_bias_in_range)
-- ==== Pre_bias_in_range.lean ====
abbrev S24x512x1024 : Shape := ⟨3, ![24, 512, 1024]⟩
abbrev S512x2816 : Shape := ⟨2, ![512, 2816]⟩
abbrev S2816 : Shape := ⟨1, ![2816]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S24x512x1024 .bf16) (main_arg1 : IVec S512x2816 8) (main_arg2 : FVec F S2816 .f32) (main_arg3 : IVec S1 32) : IVec S1 1 :=
  let main_c : IVec S_ 32 := constantI S_ 32 4294967170#32
  let main_v0 : IVec S1 32 := broadcastInDim S1 ![] bcast_S_S1 main_c
  let main_v1 : IVec S1 1 := cmpi .sge main_arg3 main_v0
  let main_c_0 : IVec S_ 32 := constantI S_ 32 127#32
  let main_v2 : IVec S1 32 := broadcastInDim S1 ![] bcast_S_S1 main_c_0
  let main_v3 : IVec S1 1 := cmpi .sle main_arg3 main_v2
  let main_v4 : IVec S1 1 := andi main_v1 main_v3
  main_v4
-- ==== Kernel.lean ====
abbrev S24x512x1024 : Shape := ⟨3, ![24, 512, 1024]⟩
abbrev S512x2816 : Shape := ⟨2, ![512, 2816]⟩
abbrev S2816 : Shape := ⟨1, ![2816]⟩
abbrev S1 : Shape := ⟨1, ![1]⟩
abbrev S_ : Shape := ⟨0, ![]⟩
abbrev S1x1 : Shape := ⟨2, ![1, 1]⟩
abbrev S12288x1024 : Shape := ⟨2, ![12288, 1024]⟩
abbrev S1x2816 : Shape := ⟨2, ![1, 2816]⟩
abbrev S12288x2816 : Shape := ⟨2, ![12288, 2816]⟩
abbrev S1024x1024 : Shape := ⟨2, ![1024, 1024]⟩
abbrev S1024x2816 : Shape := ⟨2, ![1024, 2816]⟩
abbrev S128x256 : Shape := ⟨2, ![128, 256]⟩
abbrev S64x256 : Shape := ⟨2, ![64, 256]⟩
abbrev S24x512x2816 : Shape := ⟨3, ![24, 512, 2816]⟩

abbrev nBuf : Space → Nat
  | .hbm => 24
  | .vmem => 8
  | .smem => 0
  | _ => 0

abbrev bufTy : (tb : Table) → Fin (tcTables nBuf tb) → BufTy
  | .hbm, ⟨0, _⟩ => ⟨S24x512x1024, .bf16⟩
  | .hbm, ⟨1, _⟩ => ⟨S512x2816, .i8⟩
  | .hbm, ⟨2, _⟩ => ⟨S2816, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S1, .f32⟩
  | .hbm, ⟨19, _⟩ => ⟨S1x1, .f32⟩
  | .hbm, ⟨20, _⟩ => ⟨S12288x1024, .bf16⟩
  | .hbm, ⟨21, _⟩ => ⟨S1x2816, .f32⟩
  | .hbm, ⟨22, _⟩ => ⟨S12288x2816, .bf16⟩
  | .hbm, ⟨23, _⟩ => ⟨S24x512x2816, .bf16⟩
  | .local _ .vmem, ⟨0, _⟩ => ⟨S1024x1024, .bf16⟩
  | .local _ .vmem, ⟨1, _⟩ => ⟨S1024x1024, .bf16⟩
  | .local _ .vmem, ⟨2, _⟩ => ⟨S512x2816, .i8⟩
  | .local _ .vmem, ⟨3, _⟩ => ⟨S1x2816, .f32⟩
  | .local _ .vmem, ⟨4, _⟩ => ⟨S1x1, .f32⟩
  | .local _ .vmem, ⟨5, _⟩ => ⟨S1024x2816, .bf16⟩
  | .local _ .vmem, ⟨6, _⟩ => ⟨S1024x2816, .bf16⟩
  | .local _ .vmem, ⟨7, _⟩ => ⟨S1024x2816, .bf16⟩
  | _, _ => ⟨S24x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2816 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24x512x1024 : Shape := ⟨3, ![24, 512, 1024]⟩
abbrev S512x2816 : Shape := ⟨2, ![512, 2816]⟩
abbrev S2816 : Shape := ⟨1, ![2816]⟩
abbrev S1 : Shape := ⟨1, ![1]⟩
abbrev S_ : Shape := ⟨0, ![]⟩
abbrev S512x1x2816 : Shape := ⟨3, ![512, 1, 2816]⟩
abbrev S512x2x2816 : Shape := ⟨3, ![512, 2, 2816]⟩
abbrev S1024x2816 : Shape := ⟨2, ![1024, 2816]⟩
abbrev S24x512x2816 : Shape := ⟨3, ![24, 512, 2816]⟩
abbrev S1x1x2816 : Shape := ⟨3, ![1, 1, 2816]⟩

abbrev nBuf : Space → Nat
  | .hbm => 127
  | .vmem => 0
  | .smem => 0
  | _ => 0

abbrev bufTy : (tb : Table) → Fin (tcTables nBuf tb) → BufTy
  | .hbm, ⟨0, _⟩ => ⟨S24x512x1024, .bf16⟩
  | .hbm, ⟨1, _⟩ => ⟨S512x2816, .i8⟩
  | .hbm, ⟨2, _⟩ => ⟨S2816, .f32⟩
  | .hbm, ⟨3, _⟩ => ⟨S1, .i32⟩
  | .hbm, ⟨4, _⟩ => ⟨S_, .i32⟩
  | .hbm, ⟨5, _⟩ => ⟨S512x2816, .i32⟩
  | .hbm, ⟨6, _⟩ => ⟨S_, .i32⟩
  | .hbm, ⟨7, _⟩ => ⟨S512x2816, .i32⟩
  | .hbm, ⟨8, _⟩ => ⟨S512x2816, .i32⟩
  | .hbm, ⟨9, _⟩ => ⟨S_, .i32⟩
  | .hbm, ⟨10, _⟩ => ⟨S512x2816, .i32⟩
  | .hbm, ⟨11, _⟩ => ⟨S512x2816, .i32⟩
  | .hbm, ⟨12, _⟩ => ⟨S_, .i32⟩
  | .hbm, ⟨13, _⟩ => ⟨S512x2816, .i32⟩
  | .hbm, ⟨14, _⟩ => ⟨S512x2816, .i1⟩
  | .hbm, ⟨15, _⟩ => ⟨S_, .i32⟩
  | .hbm, ⟨16, _⟩ => ⟨S512x2816, .i32⟩
  | .hbm, ⟨17, _⟩ => ⟨S512x2816, .i1⟩
  | .hbm, ⟨18, _⟩ => ⟨S_, .i32⟩
  | .hbm, ⟨19, _⟩ => ⟨S512x2816, .i32⟩
  | .hbm, ⟨20, _⟩ => ⟨S512x2816, .i32⟩
  | .hbm, ⟨21, _⟩ => ⟨S_, .i32⟩
  | .hbm, ⟨22, _⟩ => ⟨S512x2816, .i32⟩
  | .hbm, ⟨23, _⟩ => ⟨S512x2816, .i32⟩
  | .hbm, ⟨24, _⟩ => ⟨S_, .i32⟩
  | .hbm, ⟨25, _⟩ => ⟨S512x2816, .i32⟩
  | .hbm, ⟨26, _⟩ => ⟨S512x2816, .i32⟩
  | .hbm, ⟨27, _⟩ => ⟨S_, .i32⟩
  | .hbm, ⟨28, _⟩ => ⟨S512x2816, .i32⟩
  | .hbm, ⟨29, _⟩ => ⟨S512x2816, .i32⟩
  | .hbm, ⟨30, _⟩ => ⟨S512x2816, .f32⟩
  | .hbm, ⟨31, _⟩ => ⟨S_, .i32⟩
  | .hbm, ⟨32, _⟩ => ⟨S512x2816, .i32⟩
  | .hbm, ⟨33, _⟩ => ⟨S512x2816, .i32⟩
  | .hbm, ⟨34, _⟩ => ⟨S_, .i32⟩
  | .hbm, ⟨35, _⟩ => ⟨S512x2816, .i32⟩
  | .hbm, ⟨36, _⟩ => ⟨S512x2816, .i32⟩
  | .hbm, ⟨37, _⟩ => ⟨S512x2816, .f32⟩
  | .hbm, ⟨38, _⟩ => ⟨S512x2816, .f32⟩
  | .hbm, ⟨39, _⟩ => ⟨S_, .i32⟩
  | .hbm, ⟨40, _⟩ => ⟨S512x2816, .i32⟩
  | .hbm, ⟨41, _⟩ => ⟨S512x2816, .i32⟩
  | .hbm, ⟨42, _⟩ => ⟨S512x2816, .i32⟩
  | .hbm, ⟨43, _⟩ => ⟨S512x2816, .i32⟩
  | .hbm, ⟨44, _⟩ => ⟨S_, .i32⟩
  | .hbm, ⟨45, _⟩ => ⟨S512x2816, .i32⟩
  | .hbm, ⟨46, _⟩ => ⟨S512x2816, .i32⟩
  | .hbm, ⟨47, _⟩ => ⟨S_, .f32⟩
  | .hbm, ⟨48, _⟩ => ⟨S512x2816, .f32⟩
  | .hbm, ⟨49, _⟩ => ⟨S512x2816, .f32⟩
  | .hbm, ⟨50, _⟩ => ⟨S512x2816, .f32⟩
  | .hbm, ⟨51, _⟩ => ⟨S512x2816, .f32⟩
  | .hbm, ⟨52, _⟩ => ⟨S_, .i32⟩
  | .hbm, ⟨53, _⟩ => ⟨S512x2816, .i32⟩
  | .hbm, ⟨54, _⟩ => ⟨S512x2816, .i1⟩
  | .hbm, ⟨55, _⟩ => ⟨S512x2816, .i32⟩
  | .hbm, ⟨56, _⟩ => ⟨S_, .i32⟩
  | .hbm, ⟨57, _⟩ => ⟨S512x2816, .i32⟩
  | .hbm, ⟨58, _⟩ => ⟨S512x2816, .i32⟩
  | .hbm, ⟨59, _⟩ => ⟨S512x2816, .i32⟩
  | .hbm, ⟨60, _⟩ => ⟨S512x2816, .i32⟩
  | .hbm, ⟨61, _⟩ => ⟨S512x2816, .f32⟩
  | .hbm, ⟨62, _⟩ => ⟨S512x2816, .f32⟩
  | .hbm, ⟨63, _⟩ => ⟨S_, .f32⟩
  | .hbm, ⟨64, _⟩ => ⟨S_, .f32⟩
  | .hbm, ⟨65, _⟩ => ⟨S512x2816, .f32⟩
  | .hbm, ⟨66, _⟩ => ⟨S512x2816, .f32⟩
  | .hbm, ⟨67, _⟩ => ⟨S_, .i32⟩
  | .hbm, ⟨68, _⟩ => ⟨S512x2816, .i32⟩
  | .hbm, ⟨69, _⟩ => ⟨S512x2816, .i32⟩
  | .hbm, ⟨70, _⟩ => ⟨S_, .i32⟩
  | .hbm, ⟨71, _⟩ => ⟨S512x2816, .i32⟩
  | .hbm, ⟨72, _⟩ => ⟨S512x2816, .i32⟩
  | .hbm, ⟨73, _⟩ => ⟨S_, .i32⟩
  | .hbm, ⟨74, _⟩ => ⟨S512x2816, .i32⟩
  | .hbm, ⟨75, _⟩ => ⟨S512x2816, .i32⟩
  | .hbm, ⟨76, _⟩ => ⟨S_, .i32⟩
  | .hbm, ⟨77, _⟩ => ⟨S512x2816, .i32⟩
  | .hbm, ⟨78, _⟩ => ⟨S512x2816, .i32⟩
  | .hbm, ⟨79, _⟩ => ⟨S512x2816, .f32⟩
  | .hbm, ⟨80, _⟩ => ⟨S_, .i32⟩
  | .hbm, ⟨81, _⟩ => ⟨S512x2816, .i32⟩
  | .hbm, ⟨82, _⟩ => ⟨S512x2816, .i32⟩
  | .hbm, ⟨83, _⟩ => ⟨S_, .i32⟩
  | .hbm, ⟨84, _⟩ => ⟨S512x2816, .i32⟩
  | .hbm, ⟨85, _⟩ => ⟨S512x2816, .i32⟩
  | .hbm, ⟨86, _⟩ => ⟨S512x2816, .f32⟩
  | .hbm, ⟨87, _⟩ => ⟨S512x2816, .f32⟩
  | .hbm, ⟨88, _⟩ => ⟨S_, .i32⟩
  | .hbm, ⟨89, _⟩ => ⟨S512x2816, .i32⟩
  | .hbm, ⟨90, _⟩ => ⟨S512x2816, .i32⟩
  | .hbm, ⟨91, _⟩ => ⟨S512x2816, .i32⟩
  | .hbm, ⟨92, _⟩ => ⟨S512x2816, .i32⟩
  | .hbm, ⟨93, _⟩ => ⟨S_, .i32⟩
  | .hbm, ⟨94, _⟩ => ⟨S512x2816, .i32⟩
  | .hbm, ⟨95, _⟩ => ⟨S512x2816, .i32⟩
  | .hbm, ⟨96, _⟩ => ⟨S_, .f32⟩
  | .hbm, ⟨97, _⟩ => ⟨S512x2816, .f32⟩
  | .hbm, ⟨98, _⟩ => ⟨S512x2816, .f32⟩
  | .hbm, ⟨99, _⟩ => ⟨S512x2816, .f32⟩
  | .hbm, ⟨100, _⟩ => ⟨S512x2816, .f32⟩
  | .hbm, ⟨101, _⟩ => ⟨S_, .i32⟩
  | .hbm, ⟨102, _⟩ => ⟨S512x2816, .i32⟩
  | .hbm, ⟨103, _⟩ => ⟨S512x2816, .i1⟩
  | .hbm, ⟨104, _⟩ => ⟨S512x2816, .i32⟩
  | .hbm, ⟨105, _⟩ => ⟨S_, .i32⟩
  | .hbm, ⟨106, _⟩ => ⟨S512x2816, .i32⟩
  | .hbm, ⟨107, _⟩ => ⟨S512x2816, .i32⟩
  | .hbm, ⟨108, _⟩ => ⟨S512x2816, .i32⟩
  | .hbm, ⟨109, _⟩ => ⟨S512x2816, .i32⟩
  | .hbm, ⟨110, _⟩ => ⟨S512x2816, .f32⟩
  | .hbm, ⟨111, _⟩ => ⟨S512x2816, .f32⟩
  | .hbm, ⟨112, _⟩ => ⟨S_, .f32⟩
  | .hbm, ⟨113, _⟩ => ⟨S_, .f32⟩
  | .hbm, ⟨114, _⟩ => ⟨S512x2816, .f32⟩
  | .hbm, ⟨115, _⟩ => ⟨S512x2816, .f32⟩
  | .hbm, ⟨116, _⟩ => ⟨S512x2816, .bf16⟩
  | .hbm, ⟨117, _⟩ => ⟨S512x2816, .bf16⟩
  | .hbm, ⟨118, _⟩ => ⟨S512x1x2816, .bf16⟩
  | .hbm, ⟨119, _⟩ => ⟨S512x1x2816, .bf16⟩
  | .hbm, ⟨120, _⟩ => ⟨S512x2x2816, .bf16⟩
  | .hbm, ⟨121, _⟩ => ⟨S1024x2816, .bf16⟩
  | .hbm, ⟨122, _⟩ => ⟨S24x512x2816, .f32⟩
  | .hbm, ⟨123, _⟩ => ⟨S1x1x2816, .f32⟩
  | .hbm, ⟨124, _⟩ => ⟨S24x512x2816, .f32⟩
  | .hbm, ⟨125, _⟩ => ⟨S24x512x2816, .f32⟩
  | .hbm, ⟨126, _⟩ => ⟨S24x512x2816, .bf16⟩
  | _, _ => ⟨S24x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_7 : Ref sig .tc := ⟨.hbm, 31, rfl⟩
abbrev main_v19 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_call1_v0 : Ref sig .tc := ⟨.hbm, 64, rfl⟩
abbrev main_call1_v1 : Ref sig .tc := ⟨.hbm, 65, rfl⟩
abbrev main_v44 : Ref sig .tc := ⟨.hbm, 66, rfl⟩
abbrev main_c_14 : Ref sig .tc := ⟨.hbm, 67, rfl⟩
abbrev main_v45 : Ref sig .tc := ⟨.hbm, 68, rfl⟩
abbrev main_v46 : Ref sig .tc := ⟨.hbm, 69, rfl⟩
abbrev main_c_15 : Ref sig .tc := ⟨.hbm, 70, rfl⟩
abbrev main_v47 : Ref sig .tc := ⟨.hbm, 71, rfl⟩
abbrev main_v48 : Ref sig .tc := ⟨.hbm, 72, rfl⟩
abbrev main_c_16 : Ref sig .tc := ⟨.hbm, 73, rfl⟩
abbrev main_v49 : Ref sig .tc := ⟨.hbm, 74, rfl⟩
abbrev main_v50 : Ref sig .tc := ⟨.hbm, 75, rfl⟩
abbrev main_c_17 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_18 : Ref sig .tc := ⟨.hbm, 80, rfl⟩
abbrev main_v54 : Ref sig .tc := ⟨.hbm, 81, rfl⟩
abbrev main_v55 : Ref sig .tc := ⟨.hbm, 82, rfl⟩
abbrev main_c_19 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_20 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_21 : Ref sig .tc := ⟨.hbm, 93, rfl⟩
abbrev main_v64 : Ref sig .tc := ⟨.hbm, 94, rfl⟩
abbrev main_v65 : Ref sig .tc := ⟨.hbm, 95, rfl⟩
abbrev main_cst_22 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_23 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_24 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_25 : Ref sig .tc := ⟨.hbm, 112, rfl⟩
abbrev main_call3_v0 : Ref sig .tc := ⟨.hbm, 113, rfl⟩
abbrev main_call3_v1 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]
-- ==== Proof.Pieces.lean ====
/-
  What the first grid point stores into the decoded-weight scratch, as one uniform list: 88 stores, store `p` putting the
  decode of code block `(p % 8, p / 8)` (64 rows by 256 columns) into weight block `(p % 8, p / 8)` (128 rows by 256 columns).
-/
module

public import proofs.«01_k».proof.Proof.Gen.KernelIdeal.Frame
public import Idealize.ShloMosaic.Lib.Pipeline.Value

@[expose] public section

set_option maxRecDepth 20000

noncomputable section

namespace Cert.Proof

open Cert.KernelIdeal Cert.KernelIdeal.Gen Cert.KernelIdeal.Facts Idealize.ShloMosaic Idealize.ShloMosaic.TcCoe Idealize.SL.Sem

variable {F : FTy → Type} [FloatOps F]

/-- The nibble of each weight, one to a 16-bit half of a 32-bit word: the low nibble in the low half, the high in the high. -/
def ownW (v : IVec S64x256 32) : IVec S64x256 32 :=
  andi (ori v (shli v (broadcast S64x256 12#32))) (broadcast S64x256 983055#32)

/-- The nibble of each weight's partner, the halves the other way round. -/
def partnerW (v : IVec S64x256 32) : IVec S64x256 32 :=
  andi (ori (shrsi v (broadcast S64x256 4#32)) (shli v (broadcast S64x256 16#32))) (broadcast S64x256 983055#32)

/-- The word whose halves are the bf16 words of `±(1 + (f & 1) / 2) * 2 ^ (f >> 1)`, from the nibbles' bits. -/
def unitW (own : IVec S64x256 32) : IVec S64x256 32 :=
  addi (ori (andi (shli own (broadcast S64x256 6#32)) (broadcast S64x256 29360576#32))
    (andi (shli own (broadcast S64x256 12#32)) (broadcast S64x256 2147516416#32))) (broadcast S64x256 1065369472#32)

/-- A word array read as twice as many rows of 16-bit halves. -/
def halves (x : IVec S64x256 32) : IVec S128x256 16 := bitcast S128x256 16 x bitcasts_S64x256_w32_S128x256_w16

/-- One code block decoded: the kernel's own chain, from the level and the block of codes as loaded. -/
def dec (lvl : Vec F S1x1 .f32) (codes : Vec F S64x256 .i8) : FVec F S128x256 .bf16 :=
  let level : FVec F S128x256 .bf16 := truncf .bf16 (broadcastTo S128x256
    (shapeCast S1x1 (shapeCast S1x1 lvl shapeCasts_S1x1_S1x1) shapeCasts_S1x1_S1x1) broadcasts_S1x1_S128x256) bitsLt_bf16_f32
  let v : IVec S64x256 32 := extui 32 codes natLt_8_32
  let own := ownW v
  let int4 : FVec F S128x256 .bf16 := subf (bitcastToFloat .bf16 (halves (xori own (broadcast S64x256 1124614920#32))))
    (broadcast S128x256 (Scalar.ofBits .bf16 0x4308#16))
  let abfloat : FVec F S128x256 .bf16 := mulf (bitcastToFloat .bf16 (halves (unitW own))) level
  let w := select (cmpi .eq (halves (partnerW v)) (broadcast S128x256 8#16)) abfloat int4
  shapeCast S128x256 (select (cmpi .eq (halves own) (broadcast S128x256 8#16))
    (broadcast S128x256 (Scalar.ofBits .bf16 0x0000#16)) w) shapeCasts_S128x256_S128x256

/-- Code block `p` lies inside the code array. -/
theorem inbC (p : ℕ) (hp : p < 88) : ∀ a : Fin 2, (![64 * (p % 8), 256 * (p / 8)] : Fin 2 → ℕ) a + S64x256.size a ≤ S512x2816.size a := by
  intro a
  match a with
  | ⟨0, _⟩ => show 64 * (p % 8) + 64 ≤ 512; omega
  | ⟨1, _⟩ => show 256 * (p / 8) + 256 ≤ 2816; omega

/-- Weight block `p` lies inside the scratch. -/
theorem inbW (p : ℕ) (hp : p < 88) : ∀ a : Fin 2, (![128 * (p % 8), 256 * (p / 8)] : Fin 2 → ℕ) a + S128x256.size a ≤ S1024x2816.size a := by
  intro a
  match a with
  | ⟨0, _⟩ => show 128 * (p % 8) + 128 ≤ 1024; omega
  | ⟨1, _⟩ => show 256 * (p / 8) + 256 ≤ 2816; omega

/-- Store `p`: the decode of code block `p`, at weight block `p`. -/
def piece (arg2 : Memref sig .tc .vmem S512x2816 .i8) (harg2 : arg2.IsWhole) (arg4 : Memref sig .tc .vmem S1x1 .f32) (harg4 : arg4.IsWhole)
    (x1 : Vec F S512x2816 .i8) (x3 : Vec F S1x1 .f32) (p : ℕ) (hp : p < 88) : View.Piece (Elt F) S1024x2816 .bf16 :=
  ⟨Rect.unit (s := S1024x2816) ![128 * (p % 8), 256 * (p / 8)] S128x256.size (inbW p hp),
    dec (View.readAt (Elt F) arg4.view (Rect.unit (s := S1x1) ![0, 0] S1x1.size inb_S1x1_S1x1_0_0).toLoadRect (harg4.unread x3))
      (View.readAt (Elt F) arg2.view (Rect.unit (s := S512x2816) ![64 * (p % 8), 256 * (p / 8)] S64x256.size (inbC p hp)).toLoadRect (harg2.unread x1))⟩

/-- The first `k` stores, last first. -/
def pieces (arg2 : Memref sig .tc .vmem S512x2816 .i8) (harg2 : arg2.IsWhole) (arg4 : Memref sig .tc .vmem S1x1 .f32) (harg4 : arg4.IsWhole)
    (x1 : Vec F S512x2816 .i8) (x3 : Vec F S1x1 .f32) : (k : ℕ) → k ≤ 88 → List (View.Piece (Elt F) S1024x2816 .bf16)
  | 0, _ => []
  | k + 1, h => piece arg2 harg2 arg4 harg4 x1 x3 k h :: pieces arg2 harg2 arg4 harg4 x1 x3 k (Nat.le_of_succ_le h)

/-- Every store of the list is `piece p` for some `p`. -/
theorem mem_pieces (arg2 : Memref sig .tc .vmem S512x2816 .i8) (harg2 : arg2.IsWhole) (arg4 : Memref sig .tc .vmem S1x1 .f32) (harg4 : arg4.IsWhole)
    (x1 : Vec F S512x2816 .i8) (x3 : Vec F S1x1 .f32) (pc : View.Piece (Elt F) S1024x2816 .bf16) : ∀ (k : ℕ) (hk : k ≤ 88),
    pc ∈ pieces arg2 harg2 arg4 harg4 x1 x3 k hk → ∃ (p : ℕ) (hp : p < 88), pc = piece arg2 harg2 arg4 harg4 x1 x3 p hp
  | 0, _, h => absurd h List.not_mem_nil
  | k + 1, hk, h => by
    rcases List.mem_cons.mp h with e | h'
    · exact ⟨k, hk, e⟩
    · exact mem_pieces arg2 harg2 arg4 harg4 x1 x3 pc k _ h'

/-- The stores the run found are that list. -/
theorem run_pieces (c : Dev nD) (arg2 : Memref sig .tc .vmem S512x2816 .i8) (harg2 : arg2.IsWhole) (arg4 : Memref sig .tc .vmem S1x1 .f32) (harg4 : arg4.IsWhole)
    (x1 : Vec F S512x2816 .i8) (x3 : Vec F S1x1 .f32) :
    kernelRun0_A.sl.HS0_88 c arg2 harg2 arg4 harg4 x1 x3 = pieces arg2 harg2 arg4 harg4 x1 x3 88 (le_refl _) := by
  sl_kernel_rfl

end Cert.Proof

end
-- ==== Proof.Nibble.lean ====
/-
  One byte of codes, decoded: the weight a nibble stands for, as a real number, and the two texts of it — the kernel's words
  and the reference's arithmetic — read over the extended reals.
-/
module

public import Idealize.ShloMosaic.PureOps.Ideal
public import Idealize.ShloMosaic.Lib.Pointwise

@[expose] public section

set_option maxRecDepth 20000

noncomputable section

namespace Cert.Proof

open Idealize.ShloMosaic

/-! ### The decoded weight -/

/-- Nibble `h` of a byte: `0` the low one, `1` the high one. -/
def nib (b : BitVec 8) (h : ℕ) : BitVec 4 := b.extractLsb' (4 * h) 4

/-- The abfloat magnitude of a nibble at level one: `(1 - 2s) (2 + m) 2^e / 2` for sign bit `s`, mantissa bit `m`, exponent `e`. -/
def unitR (x : BitVec 4) : ℝ := (1 - 2 * (x.toNat / 8 : ℕ)) * (2 + (x.toNat % 2 : ℕ)) * 2 ^ (x.toNat / 2 % 4) / 2

/-- The weight of a nibble `x` with partner `y` at level `lvl`: zero for a victim, an abfloat beside a victim, else the nibble as
    a signed integer. -/
def weight (lvl : EReal) (x y : BitVec 4) : EReal :=
  if x = 8#4 then 0 else if y = 8#4 then (unitR x : EReal) * lvl else ((x.toInt : ℝ) : EReal)

/-! ### The kernel's words -/

/-- The kernel's word with each nibble in a half of its own. -/
def own1 (v : BitVec 32) : BitVec 32 := IntOp.andi (IntOp.ori v (IntOp.shli .vector v 12#32)) 983055#32

/-- The kernel's word with each nibble's partner in its half. -/
def partner1 (v : BitVec 32) : BitVec 32 :=
  IntOp.andi (IntOp.ori (IntOp.shrsi .vector v 4#32) (IntOp.shli .vector v 16#32)) 983055#32

/-- The kernel's word with each nibble's abfloat bits in its half. -/
def unit1 (own : BitVec 32) : BitVec 32 :=
  IntOp.addi (IntOp.ori (IntOp.andi (IntOp.shli .vector own 6#32) 29360576#32)
    (IntOp.andi (IntOp.shli .vector own 12#32) 2147516416#32)) 1065369472#32

/-- The bf16 word of a nibble's abfloat magnitude. -/
def unit16 (x : BitVec 4) : BitVec 16 :=
  (((x.setWidth 16 <<< 6) &&& 0x01C0#16) ||| ((x.setWidth 16 <<< 12) &&& 0x8000#16)) + 0x3F80#16

/-- The half of `own1` at parity `h` is the nibble there. -/
theorem own1_half : ∀ (b : BitVec 8) (h : Fin 2),
    (own1 (b.setWidth 32)).extractLsb' (16 * h.val) 16 = (nib b h.val).setWidth 16 := by decide +kernel

/-- The half of `partner1` at parity `h` is the other nibble. -/
theorem partner1_half : ∀ (b : BitVec 8) (h : Fin 2),
    (partner1 (b.setWidth 32)).extractLsb' (16 * h.val) 16 = (nib b (1 - h.val)).setWidth 16 := by decide +kernel

/-- The half of `unit1` at parity `h` is the nibble's abfloat word. -/
theorem unit1_half : ∀ (b : BitVec 8) (h : Fin 2),
    (unit1 (own1 (b.setWidth 32))).extractLsb' (16 * h.val) 16 = unit16 (nib b h.val) := by decide +kernel

/-- The half of the int4 word at parity `h` is the nibble under the bits of `128`. -/
theorem int41_half : ∀ (b : BitVec 8) (h : Fin 2),
    (IntOp.xori (own1 (b.setWidth 32)) 1124614920#32).extractLsb' (16 * h.val) 16 = (nib b h.val).setWidth 16 ^^^ 0x4308#16 := by
  decide +kernel

/-- The abfloat word denotes the abfloat magnitude. -/
theorem ofBits_unit16 (x : BitVec 4) : Ideal.ofBits .bf16 (unit16 x) = (unitR x : EReal) := by
  have h : ∀ k : Fin 16, Ideal.ofBits .bf16 (unit16 (BitVec.ofFin k)) = (unitR (BitVec.ofFin k) : EReal) := by
    intro k
    fin_cases k <;> simp [Ideal.ofBits, Ideal.ieee, unit16, unitR, -EReal.coe_mul, -EReal.coe_add, -EReal.coe_pow, -EReal.coe_sub, -EReal.coe_neg] <;> norm_num [-EReal.coe_add, -EReal.coe_pow, -EReal.coe_sub]
  exact h x.toFin

/-- The int4 word less `136` is the nibble as a signed integer. -/
theorem ofBits_int4 (x : BitVec 4) :
    Ideal.ofBits .bf16 (x.setWidth 16 ^^^ 0x4308#16) - Ideal.ofBits .bf16 0x4308#16 = ((x.toInt : ℝ) : EReal) := by
  have h : ∀ k : Fin 16, Ideal.ofBits .bf16 ((BitVec.ofFin k : BitVec 4).setWidth 16 ^^^ 0x4308#16) - Ideal.ofBits .bf16 0x4308#16
      = (((BitVec.ofFin k : BitVec 4).toInt : ℝ) : EReal) := by
    intro k
    fin_cases k <;> simp [Ideal.ofBits, Ideal.ieee, BitVec.toInt, -EReal.coe_mul, ← EReal.coe_sub] <;> norm_num
  exact h x.toFin

/-- Comparing a nibble's word with eight is comparing the nibble with eight. -/
theorem nib_eq_eight16 : ∀ x : BitVec 4, (IntOp.cmpi .eq (x.setWidth 16) 8#16 = 1#1) ↔ x = 8#4 := by decide +kernel

/-- The kernel's choice between the three values of a nibble is `weight`. -/
theorem kernel_weight (lvl : EReal) (x y : BitVec 4) :
    Scalar.select (IntOp.cmpi .eq (x.setWidth 16) 8#16) (Ideal.ofBits .bf16 0x0000#16)
      (Scalar.select (IntOp.cmpi .eq (y.setWidth 16) 8#16) (Ideal.ofBits .bf16 (unit16 x) * lvl)
        (Ideal.ofBits .bf16 (x.setWidth 16 ^^^ 0x4308#16) - Ideal.ofBits .bf16 0x4308#16)) = weight lvl x y := by
  have h0 : Ideal.ofBits .bf16 0x0000#16 = 0 := by simp [Ideal.ofBits, Ideal.ieee]
  unfold Scalar.select weight
  rw [ofBits_unit16, ofBits_int4, h0]
  exact if_congr (nib_eq_eight16 x) rfl (if_congr (nib_eq_eight16 y) rfl rfl)

/-! ### The level: the float of word `(bias + 127) << 23` is `2 ^ bias` -/

theorem level_word : ∀ e : Fin 255, ((BitVec.ofNat 32 e.val) <<< 23).extractLsb' 31 1 = 0#1 ∧
    (((BitVec.ofNat 32 e.val) <<< 23).extractLsb' 23 8).toNat = e.val ∧ (((BitVec.ofNat 32 e.val) <<< 23).extractLsb' 0 23).toNat = 0 := by
  decide +kernel

/-- The word `e << 23` denotes `2 ^ (e - 127)`, for a biased exponent `e` of a normal float. -/
theorem ofBits_exponent (e : Fin 255) (h1 : 1 ≤ e.val) :
    Ideal.ofBits .f32 (BitVec.ofNat 32 e.val <<< 23) = (((2 : ℝ) ^ ((e.val : ℤ) - 127) : ℝ) : EReal) := by
  obtain ⟨w1, w2, w3⟩ := level_word e
  have := e.isLt
  generalize BitVec.ofNat 32 e.val <<< 23 = w at w1 w2 w3 ⊢
  show Ideal.ieee 8 23 w = _
  unfold Ideal.ieee
  simp only [Nat.reduceAdd, w1, w2, w3]
  rw [if_neg (by omega), if_neg (by omega)]
  congr 1
  have h8 : (2 : ℝ) ^ ((e.val : ℤ) - 127) = 2 ^ 23 * (2 : ℝ) ^ ((e.val : ℤ) - 127 - 23) := by
    rw [zpow_sub₀ (by norm_num) ((e.val : ℤ) - 127) 23]
    norm_num
    ring
  rw [h8]
  norm_num

/-- The clip to `[-127, 128]` leaves a bias in range as it is. -/
theorem clip_bias (bias : BitVec 32) (hlo : -126 ≤ bias.toInt) (hhi : bias.toInt ≤ 127) :
    IntOp.minsi 128#32 (IntOp.maxsi 4294967169#32 bias) = bias := by
  have hmax : IntOp.maxsi 4294967169#32 bias = bias := by
    unfold IntOp.maxsi
    rw [if_neg]
    rw [BitVec.slt_iff_toInt_lt, show (4294967169#32).toInt = -127 from by decide]
    omega
  rw [hmax]
  unfold IntOp.minsi
  rw [if_neg]
  rw [BitVec.slt_iff_toInt_lt, show (128#32).toInt = 128 from by decide]
  omega

/-- The level the kernel's host program builds, for a bias in range. -/
theorem ofBits_level (bias : BitVec 32) (hlo : -126 ≤ bias.toInt) (hhi : bias.toInt ≤ 127) :
    Ideal.ofBits .f32 (IntOp.shli .host (IntOp.addi (IntOp.minsi 128#32 (IntOp.maxsi 4294967169#32 bias)) 127#32) 23#32)
      = (((2 : ℝ) ^ bias.toInt : ℝ) : EReal) := by
  rw [clip_bias bias hlo hhi]
  obtain ⟨e, he, h1⟩ : ∃ e : Fin 255, bias.toInt = (e.val : ℤ) - 127 ∧ 1 ≤ e.val :=
    ⟨⟨(bias.toInt + 127).toNat, by omega⟩, by show _ = ((bias.toInt + 127).toNat : ℤ) - 127; omega, by
      show 1 ≤ (bias.toInt + 127).toNat; omega⟩
  have hw : bias + 127#32 = BitVec.ofNat 32 e.val := by
    apply BitVec.eq_of_toInt_eq
    rw [BitVec.toInt_add, he, show (127#32).toInt = 127 from by decide, BitVec.toInt_ofNat']
    simp
  have hs : IntOp.shli .host (IntOp.addi bias 127#32) 23#32 = BitVec.ofNat 32 e.val <<< 23 := by
    unfold IntOp.shli IntOp.addi
    rw [if_pos (by decide), hw, BitVec.shiftLeft_eq', show (23#32).toNat = 23 from by decide]
  rw [hs, he]
  exact ofBits_exponent e h1

/-! ### The reference's arithmetic -/

/-- The low nibble, as the reference takes it. -/
theorem ref_lo : ∀ b : BitVec 8, IntOp.andi (b.setWidth 32) 15#32 = (nib b 0).setWidth 32 := by decide +kernel

/-- The high nibble, as the reference takes it. -/
theorem ref_hi : ∀ b : BitVec 8, IntOp.shrsi .host (b.setWidth 32) 4#32 = (nib b 1).setWidth 32 := by decide +kernel

theorem nib_eq_eight32 : ∀ x : BitVec 4, (IntOp.cmpi .eq (x.setWidth 32) 8#32 = 1#1) ↔ x = 8#4 := by decide +kernel

theorem ref_sign : ∀ x : BitVec 4, (IntOp.subi 1#32 (IntOp.muli 2#32 (IntOp.shrsi .host (x.setWidth 32) 3#32))).toInt
    = 1 - 2 * ((x.toNat / 8 : ℕ) : ℤ) := by decide +kernel

theorem ref_mant : ∀ x : BitVec 4, (IntOp.addi 2#32 (IntOp.andi (IntOp.andi (x.setWidth 32) 7#32) 1#32)).toInt
    = 2 + ((x.toNat % 2 : ℕ) : ℤ) := by decide +kernel

theorem ref_field : ∀ x : BitVec 4, IntOp.shrsi .host (IntOp.andi (x.setWidth 32) 7#32) 1#32 = BitVec.ofNat 32 (x.toNat / 2 % 4) := by
  decide +kernel

theorem ref_int4 : ∀ x : BitVec 4, (IntOp.subi (x.setWidth 32)
    (IntOp.muli 16#32 ((IntOp.cmpi .sge (x.setWidth 32) 8#32).setWidth 32))).toInt = x.toInt := by decide +kernel

/-- The reference's exponent does not wrap for a bias in range. -/
theorem ref_exp (e : ℕ) (he : e < 4) (bias : BitVec 32) (hlo : -126 ≤ bias.toInt) (hhi : bias.toInt ≤ 127) :
    (IntOp.subi (IntOp.addi (BitVec.ofNat 32 e) bias) 1#32).toInt = e + bias.toInt - 1 := by
  have h : ((BitVec.ofNat 32 e).toInt : ℤ) = e := by
    rw [BitVec.toInt_ofNat']; simp; rw [Int.bmod_def]; omega
  unfold IntOp.subi IntOp.addi
  rw [BitVec.toInt_sub, BitVec.toInt_add, h, show (1#32).toInt = 1 from by decide]
  simp only [Int.bmod_def]
  omega

/-- The reference's abfloat value of a nibble is its magnitude at level `2 ^ bias`. -/
theorem ref_abfloat (x : BitVec 4) (bias : BitVec 32) (hlo : -126 ≤ bias.toInt) (hhi : bias.toInt ≤ 127) :
    (((IntOp.subi 1#32 (IntOp.muli 2#32 (IntOp.shrsi .host (x.setWidth 32) 3#32))).toInt : ℝ) : EReal)
      * (((IntOp.addi 2#32 (IntOp.andi (IntOp.andi (x.setWidth 32) 7#32) 1#32)).toInt : ℝ) : EReal)
      * Ideal.pow (Ideal.ofBits .f32 0x40000000#32)
          (((IntOp.subi (IntOp.addi (IntOp.shrsi .host (IntOp.andi (x.setWidth 32) 7#32) 1#32) bias) 1#32).toInt : ℝ) : EReal)
      = (unitR x : EReal) * (((2 : ℝ) ^ bias.toInt : ℝ) : EReal) := by
  have h2 : Ideal.ofBits .f32 0x40000000#32 = ((2 : ℝ) : EReal) := by
    simp [Ideal.ofBits, Ideal.ieee, -EReal.coe_mul]; norm_num
  rw [ref_sign, ref_mant, ref_field, ref_exp _ (by omega) bias hlo hhi, h2, Ideal.pow_coe_coe, ← EReal.coe_mul, ← EReal.coe_mul, ← EReal.coe_mul]
  congr 1
  have hp : Real.rpow 2 (((((x.toNat / 2 % 4 : ℕ) : ℤ) + bias.toInt - 1 : ℤ)) : ℝ) = 2 ^ (x.toNat / 2 % 4) * 2 ^ bias.toInt / 2 := by
    rw [show Real.rpow 2 (((((x.toNat / 2 % 4 : ℕ) : ℤ) + bias.toInt - 1 : ℤ)) : ℝ) = (2 : ℝ) ^ (((x.toNat / 2 % 4 : ℕ) : ℤ) + bias.toInt - 1 : ℤ) from Real.rpow_intCast _ _,
      zpow_sub₀ (by norm_num), zpow_add₀ (by norm_num), zpow_natCast, zpow_one]
  rw [hp]
  unfold unitR
  simp only [Int.cast_sub, Int.cast_add, Int.cast_mul, Int.cast_natCast, Int.cast_one, Int.cast_ofNat]
  ring

end Cert.Proof

end
-- ==== Proof.Decode.lean ====
/-
  One decoded block, read at an index over the extended reals: row `r` of the decode is nibble `r % 2` of code row `r / 2`.
-/
module

public import proofs.«01_k».proof.Proof.Pieces
public import proofs.«01_k».proof.Proof.Nibble
public import Idealize.ShloMosaic.Lib.BitcastPair

@[expose] public section

set_option maxRecDepth 20000

noncomputable section

namespace Cert.Proof

open Cert.KernelIdeal Cert.KernelIdeal.Gen Cert.KernelIdeal.Facts Idealize.ShloMosaic Idealize.ShloMosaic.TcCoe Idealize.SL.Sem

/-- The code a row of the decoded block comes from. -/
abbrev codeIdx (i : S128x256.Idx) : S64x256.Idx := fun a => match a with
  | ⟨0, _⟩ => ⟨(i 0).val / 2, by have h : (i 0).val < 128 := (i 0).isLt; show (i 0).val / 2 < 64; omega⟩
  | ⟨1, _⟩ => ⟨(i 1).val, (i 1).isLt⟩

/-- The one index of a one-by-one array. -/
abbrev oneIdx : S1x1.Idx := fun a => match a with
  | ⟨0, _⟩ => ⟨0, Nat.one_pos⟩
  | ⟨1, _⟩ => ⟨0, Nat.one_pos⟩

/-- The half of a word array at row `r` is half `r % 2` of word row `r / 2`. -/
theorem halves_apply (x : IVec S64x256 32) (i : S128x256.Idx) :
    halves x i = (x (codeIdx i)).extractLsb' (16 * ((i 0).val % 2)) 16 := by
  unfold halves
  rw [bitcast_32_16]
  have hrow : S128x256.row i = (i 0).val := rfl
  have hidx : ∀ hp, Shape.Bitcasts.srcIdx bitcasts_S64x256_w32_S128x256_w16 i (S128x256.row i / 2) hp = codeIdx i := fun hp =>
    funext fun a => match a with
      | ⟨0, h⟩ => Fin.ext (Shape.Bitcasts.srcIdx_row _ _ _ _ ⟨0, h⟩ rfl)
      | ⟨1, h⟩ => Fin.ext (Shape.Bitcasts.srcIdx_other _ _ _ _ ⟨1, h⟩ (by show ¬ (1 + 2 = 2); omega))
  rw [hidx, hrow]

theorem ownW_apply (codes : IVec S64x256 8) (j : S64x256.Idx) :
    ownW (extui 32 codes natLt_8_32) j = own1 ((codes j).setWidth 32) := rfl

theorem partnerW_apply (codes : IVec S64x256 8) (j : S64x256.Idx) :
    partnerW (extui 32 codes natLt_8_32) j = partner1 ((codes j).setWidth 32) := rfl

theorem unitW_apply (own : IVec S64x256 32) (j : S64x256.Idx) : unitW own j = unit1 (own j) := rfl

theorem xori_splat_apply (own : IVec S64x256 32) (k : BitVec 32) (j : S64x256.Idx) :
    xori own (broadcast S64x256 k) j = IntOp.xori (own j) k := rfl

/-- The four halves the decode takes of a code, at a row: words of its two nibbles. -/
theorem own_at (codes : IVec S64x256 8) (i : S128x256.Idx) :
    halves (ownW (extui 32 codes natLt_8_32)) i = (nib (codes (codeIdx i)) ((i 0).val % 2)).setWidth 16 := by
  rw [halves_apply, ownW_apply]
  exact own1_half (codes (codeIdx i)) ⟨(i 0).val % 2, Nat.mod_lt _ (by decide)⟩

theorem partner_at (codes : IVec S64x256 8) (i : S128x256.Idx) :
    halves (partnerW (extui 32 codes natLt_8_32)) i = (nib (codes (codeIdx i)) (1 - (i 0).val % 2)).setWidth 16 := by
  rw [halves_apply, partnerW_apply]
  exact partner1_half (codes (codeIdx i)) ⟨(i 0).val % 2, Nat.mod_lt _ (by decide)⟩

theorem unit_at (codes : IVec S64x256 8) (i : S128x256.Idx) :
    halves (unitW (ownW (extui 32 codes natLt_8_32))) i = unit16 (nib (codes (codeIdx i)) ((i 0).val % 2)) := by
  rw [halves_apply, unitW_apply, ownW_apply]
  exact unit1_half (codes (codeIdx i)) ⟨(i 0).val % 2, Nat.mod_lt _ (by decide)⟩

theorem int4_at (codes : IVec S64x256 8) (i : S128x256.Idx) :
    halves (xori (ownW (extui 32 codes natLt_8_32)) (broadcast S64x256 1124614920#32)) i
      = (nib (codes (codeIdx i)) ((i 0).val % 2)).setWidth 16 ^^^ 0x4308#16 := by
  rw [halves_apply, xori_splat_apply, ownW_apply]
  exact int41_half (codes (codeIdx i)) ⟨(i 0).val % 2, Nat.mod_lt _ (by decide)⟩

/-- The level broadcast over a block is the level. -/
theorem level_at (lvl : Vec Ideal S1x1 .f32) (i : S128x256.Idx) :
    broadcastTo S128x256 lvl broadcasts_S1x1_S128x256 i = lvl oneIdx :=
  broadcastTo_apply lvl broadcasts_S1x1_S128x256 i oneIdx fun a => match a with
    | ⟨0, _⟩ => (if_pos rfl).symm
    | ⟨1, _⟩ => (if_pos rfl).symm

/-- The choice between the three values, read at an index. -/
theorem choice_apply {s : Shape} (o p : IVec s 16) (z k : EReal) (u x : IVec s 16) (l : FVec Ideal s .bf16) (i : s.Idx) :
    select (cmpi .eq o (broadcast s 8#16)) (broadcast s z)
      (select (cmpi .eq p (broadcast s 8#16)) (mulf (F := Ideal) (φ := .bf16) (bitcastToFloat .bf16 u) l)
        (subf (F := Ideal) (φ := .bf16) (bitcastToFloat .bf16 x) (broadcast s k))) i
      = Scalar.select (IntOp.cmpi .eq (o i) 8#16) z
        (Scalar.select (IntOp.cmpi .eq (p i) 8#16) (Ideal.ofBits .bf16 (u i) * l i) (Ideal.ofBits .bf16 (x i) - k)) := rfl

/-- One decoded block at an index. -/
theorem dec_apply (lvl : Vec Ideal S1x1 .f32) (codes : Vec Ideal S64x256 .i8) (i : S128x256.Idx) :
    dec (F := Ideal) lvl codes i
      = weight (lvl oneIdx) (nib (codes (codeIdx i)) ((i 0).val % 2)) (nib (codes (codeIdx i)) (1 - (i 0).val % 2)) := by
  rw [← kernel_weight, ← int4_at, ← own_at, ← partner_at, ← unit_at, ← level_at lvl i]
  unfold dec
  simp only [shapeCast_self]
  exact choice_apply _ _ _ _ _ _ _ i

end Cert.Proof

end
-- ==== Proof.Weights.lean ====
/-
  What one grid point leaves: the first fills the scratch with the decoded weights, and every point stores its block of the
  result, the product of its block of `x` with the scratch, scaled.
-/
module

public import proofs.«01_k».proof.Proof.Decode

@[expose] public section

set_option maxRecDepth 20000

noncomputable section

namespace Cert.Proof

open Cert.KernelIdeal Cert.KernelIdeal.Gen Cert.KernelIdeal.Facts Idealize.ShloMosaic Idealize.ShloMosaic.TcCoe Idealize.SL.Sem

/-- The code a weight comes from. -/
abbrev cIdx (y : S1024x2816.Idx) : S512x2816.Idx := fun a => match a with
  | ⟨0, _⟩ => ⟨(y 0).val / 2, by have h : (y 0).val < 1024 := (y 0).isLt; show (y 0).val / 2 < 512; omega⟩
  | ⟨1, _⟩ => ⟨(y 1).val, (y 1).isLt⟩

/-- The decoded weights: row `r` is nibble `r % 2` of code row `r / 2`, its partner the other nibble. -/
def weights (lvl : EReal) (codes : IVec S512x2816 8) : S1024x2816.Idx → EReal := fun y =>
  weight lvl (nib (codes (cIdx y)) ((y 0).val % 2)) (nib (codes (cIdx y)) (1 - (y 0).val % 2))

theorem off_zero : (![0, 0] : Fin 2 → ℕ) = fun _ => 0 := funext fun a => by fin_cases a <;> rfl

variable (arg2 : Memref sig .tc .vmem S512x2816 .i8) (harg2 : arg2.IsWhole) (arg4 : Memref sig .tc .vmem S1x1 .f32) (harg4 : arg4.IsWhole)
  (x1 : Vec Ideal S512x2816 .i8) (x3 : Vec Ideal S1x1 .f32)

/-- Every store holds the decoded weights of the place it lies at. -/
theorem piece_apply (p : ℕ) (hp : p < 88) (x : S128x256.Idx) :
    (piece (F := Ideal) arg2 harg2 arg4 harg4 x1 x3 p hp).2 x
      = weights (x3 oneIdx) x1 ((piece (F := Ideal) arg2 harg2 arg4 harg4 x1 x3 p hp).1.emb x) := by
  have h0 : (x 0).val < 128 := (x 0).isLt
  have e0 : (((Rect.unit (s := S1024x2816) ![128 * (p % 8), 256 * (p / 8)] S128x256.size (inbW p hp)).emb x) 0).val
      = 128 * (p % 8) + 1 * (x 0).val := rfl
  have e1 : (((Rect.unit (s := S1024x2816) ![128 * (p % 8), 256 * (p / 8)] S128x256.size (inbW p hp)).emb x) 1).val
      = 256 * (p / 8) + 1 * (x 1).val := rfl
  have hlvl : View.readAt (Elt Ideal) arg4.view (Rect.unit (s := S1x1) ![0, 0] S1x1.size inb_S1x1_S1x1_0_0).toLoadRect (harg4.unread x3) = x3 := by
    rw [View.readAt_eq_ld, harg4.read_unread, View.ld_unit_zero off_zero]
  have hcode : View.readAt (Elt Ideal) arg2.view (Rect.unit (s := S512x2816) ![64 * (p % 8), 256 * (p / 8)] S64x256.size (inbC p hp)).toLoadRect
      (harg2.unread x1) (codeIdx x)
      = x1 (cIdx ((Rect.unit (s := S1024x2816) ![128 * (p % 8), 256 * (p / 8)] S128x256.size (inbW p hp)).emb x)) := by
    rw [View.readAt_eq_ld, harg2.read_unread]
    refine congrArg x1 (funext fun a => Fin.ext ?_)
    match a with
    | ⟨0, _⟩ =>
      show 64 * (p % 8) + 1 * ((x 0).val / 2) = (128 * (p % 8) + 1 * (x 0).val) / 2
      omega
    | ⟨1, _⟩ => rfl
  unfold piece weights
  dsimp only
  rw [dec_apply, hlvl, hcode, e0, show (128 * (p % 8) + 1 * (x 0).val) % 2 = (x 0).val % 2 by omega]

/-- Store `p` is in the list. -/
theorem piece_mem (p : ℕ) (hp : p < 88) : ∀ (k : ℕ) (hk : k ≤ 88), p < k →
    piece (F := Ideal) arg2 harg2 arg4 harg4 x1 x3 p hp ∈ pieces (F := Ideal) arg2 harg2 arg4 harg4 x1 x3 k hk
  | 0, _, h => absurd h (Nat.not_lt_zero _)
  | k + 1, hk, h => by
    rcases Nat.lt_succ_iff_lt_or_eq.mp h with h' | rfl
    · exact List.mem_cons_of_mem _ (piece_mem p hp k _ h')
    · exact List.mem_cons_self

/-- The stores cover the scratch. -/
theorem pieces_cover (y : S1024x2816.Idx) :
    ∃ pc ∈ pieces (F := Ideal) arg2 harg2 arg4 harg4 x1 x3 88 (le_refl _), y ∈ pc.1.set := by
  have h0 : (y 0).val < 1024 := (y 0).isLt
  have h1 : (y 1).val < 2816 := (y 1).isLt
  have hp : (y 1).val / 256 * 8 + (y 0).val / 128 < 88 := by omega
  refine ⟨_, piece_mem arg2 harg2 arg4 harg4 x1 x3 _ hp 88 (le_refl _) hp, ?_⟩
  unfold piece
  rw [Rect.mem_set_unit]
  intro a
  match a with
  | ⟨0, _⟩ =>
    show 128 * (((y 1).val / 256 * 8 + (y 0).val / 128) % 8) ≤ (y 0).val
      ∧ (y 0).val < 128 * (((y 1).val / 256 * 8 + (y 0).val / 128) % 8) + 128
    omega
  | ⟨1, _⟩ =>
    show 256 * (((y 1).val / 256 * 8 + (y 0).val / 128) / 8) ≤ (y 1).val
      ∧ (y 1).val < 256 * (((y 1).val / 256 * 8 + (y 0).val / 128) / 8) + 256
    omega

/-- So together they leave the decoded weights. -/
theorem canon_pieces : View.canon (pieces (F := Ideal) arg2 harg2 arg4 harg4 x1 x3 88 (le_refl _)) = weights (x3 oneIdx) x1 :=
  funext fun y => View.canon_apply_of_pieces (weights (x3 oneIdx) x1) _ (fun pc hpc x => by
    obtain ⟨p, hp, rfl⟩ := mem_pieces arg2 harg2 arg4 harg4 x1 x3 pc 88 (le_refl _) hpc
    exact piece_apply arg2 harg2 arg4 harg4 x1 x3 p hp x) y (pieces_cover arg2 harg2 arg4 harg4 x1 x3 y)

variable (c : Dev nD) (i : grid0.Coords) (arg1 : Memref sig .tc .vmem S1024x1024 .bf16) (harg1 : arg1.IsWhole)
  (arg3 : Memref sig .tc .vmem S1x2816 .f32) (harg3 : arg3.IsWhole) (arg5 : Memref sig .tc .vmem S1024x2816 .bf16) (harg5 : arg5.IsWhole)
  (arg6 : Memref sig .tc .vmem S1024x2816 .bf16) (harg6 : arg6.IsWhole)
  (x0 : Vec Ideal S1024x1024 .bf16) (x2 : Vec Ideal S1x2816 .f32) (xs0 : Vec Ideal S1024x2816 .bf16)

/-- The first point leaves the decoded weights in the scratch. -/
theorem sout_A (hc0 : cond0_0 i) :
    sout0_A_0 (F := Ideal) c i arg1 harg1 arg2 harg2 arg3 harg3 arg4 harg4 arg5 harg5 arg6 harg6 hc0 x0 x1 x2 x3 = weights (x3 oneIdx) x1 := by
  unfold sout0_A_0
  rw [View.read_writes_junk_eq_canon]
  unfold kernelRun0_A
  dsimp only
  rw [run_pieces]
  exact canon_pieces arg2 harg2 arg4 harg4 x1 x3

/-- The first point's block of the result. -/
theorem out_A (hc0 : cond0_0 i) :
    out0_A_4 (F := Ideal) c i arg1 harg1 arg2 harg2 arg3 harg3 arg4 harg4 arg5 harg5 arg6 harg6 hc0 x0 x1 x2 x3
      = k0_pay2 (F := Ideal) x0 (weights (x3 oneIdx) x1) x2 := by
  unfold out0_A_4
  rw [View.read_writes_junk_eq_canon]
  unfold kernelRun0_A
  dsimp only
  rw [View.canon_unit_zero off_zero]
  unfold kernelRun0_A.sl.v5
  rw [View.readCov_eq_canon', run_pieces, canon_pieces]
  rw [View.readAt_eq_ld, View.readAt_eq_ld, harg1.read_unread, harg3.read_unread, View.ld_unit_zero off_zero, View.ld_unit_zero off_zero]
  congr 1
  exact View.ld_unit_zero (Val := Elt Ideal) (e := .bf16) off_zero inb_S1024x2816_S1024x2816_0_0 (weights (x3 oneIdx) x1)

/-- A later point's block of the result, over the scratch it finds. -/
theorem out_B (hc0 : ¬cond0_0 i) :
    out0_B_4 (F := Ideal) c i arg1 harg1 arg2 harg2 arg3 harg3 arg4 harg4 arg5 harg5 arg6 harg6 hc0 x0 x1 x2 x3 xs0
      = k0_pay2 (F := Ideal) x0 xs0 x2 := by
  unfold out0_B_4
  rw [View.read_writes_junk_eq_canon]
  unfold kernelRun0_B
  dsimp only
  rw [View.canon_unit_zero off_zero]
  rw [View.readAt_eq_ld, View.readAt_eq_ld, View.readAt_eq_ld, harg1.read_unread, harg3.read_unread, harg6.read_unread,
    View.ld_unit_zero off_zero, View.ld_unit_zero off_zero, View.ld_unit_zero off_zero]

end Cert.Proof

end
-- ==== Proof.Block.lean ====
/-
  One block of the result at an index, and the blocks of the arguments a grid point reads.
-/
module

public import proofs.«01_k».proof.Proof.Weights

@[expose] public section

set_option maxRecDepth 20000

noncomputable section

namespace Cert.Proof

open Cert.KernelIdeal Cert.KernelIdeal.Gen Cert.KernelIdeal.Facts Idealize.ShloMosaic Idealize.ShloMosaic.TcCoe Idealize.SL.Sem

/-- Row of `y`, column `k` of a block of `x`. -/
abbrev xAt (y : S1024x2816.Idx) (k : Fin 1024) : S1024x1024.Idx := fun a => match a with
  | ⟨0, _⟩ => ⟨(y 0).val, (y 0).isLt⟩
  | ⟨1, _⟩ => ⟨k.val, k.isLt⟩
/-- Row `k`, column `n` of the weights. -/
abbrev wAt (k : Fin 1024) (n : Fin 2816) : S1024x2816.Idx := fun a => match a with
  | ⟨0, _⟩ => ⟨k.val, k.isLt⟩
  | ⟨1, _⟩ => ⟨n.val, n.isLt⟩
/-- Column `n` of the row of scales. -/
abbrev sAt (n : Fin 2816) : S1x2816.Idx := fun a => match a with
  | ⟨0, _⟩ => ⟨0, Nat.one_pos⟩
  | ⟨1, _⟩ => ⟨n.val, n.isLt⟩

theorem lhs_row (y : S1024x2816.Idx) (q : dot_S1024x1024_S1024x2816_S1024x2816_1_0_0_1_n_n.contr.Idx) :
    (dot_S1024x1024_S1024x2816_S1024x2816_1_0_0_1_n_n.lhsIdx y q (0 : Fin 2)).val = (y 0).val := by
  unfold DotDims.lhsIdx
  rw [dif_neg (show ¬ (0 : Fin 2) ∈ dot_S1024x1024_S1024x2816_S1024x2816_1_0_0_1_n_n.lhsBatch by decide),
    dif_pos (show (0 : Fin 2) ∈ dot_S1024x1024_S1024x2816_S1024x2816_1_0_0_1_n_n.lhsNonContracting by decide)]
  rfl
theorem rhs_col (y : S1024x2816.Idx) (q : dot_S1024x1024_S1024x2816_S1024x2816_1_0_0_1_n_n.contr.Idx) :
    (dot_S1024x1024_S1024x2816_S1024x2816_1_0_0_1_n_n.rhsIdx y q (1 : Fin 2)).val = (y 1).val := by
  unfold DotDims.rhsIdx
  rw [dif_neg (show ¬ (1 : Fin 2) ∈ dot_S1024x1024_S1024x2816_S1024x2816_1_0_0_1_n_n.rhsBatch by decide),
    dif_pos (show (1 : Fin 2) ∈ dot_S1024x1024_S1024x2816_S1024x2816_1_0_0_1_n_n.rhsNonContracting by decide)]
  rfl

/-- The kernel's product at an index: a row of `x` times a column of the weights, summed. -/
theorem product_apply (X : FVec Ideal S1024x1024 .bf16) (W : FVec Ideal S1024x2816 .bf16) (A : FVec Ideal S1024x2816 .f32) (y : S1024x2816.Idx) :
    matmul dot_S1024x1024_S1024x2816_S1024x2816_1_0_0_1_n_n none X W A y = A y + ∑ k : Fin 1024, X (xAt y k) * W (wAt k (y 1)) := by
  refine (Ideal.matmul_apply dot_S1024x1024_S1024x2816_S1024x2816_1_0_0_1_n_n none X W A y).trans ?_
  rw [← Equiv.sum_comp (ValueIdx.contrEquiv1 dot_S1024x1024_S1024x2816_S1024x2816_1_0_0_1_n_n 1024 rfl rfl).symm]
  refine congrArg (A y + ·) (Finset.sum_congr rfl fun k _ => ?_)
  have hk := ValueIdx.contrEquiv1_symm_val dot_S1024x1024_S1024x2816_S1024x2816_1_0_0_1_n_n 1024 rfl rfl k
  congr 1
  · refine congrArg X (funext fun a => Fin.ext ?_)
    match a with
    | ⟨0, _⟩ => exact lhs_row y _
    | ⟨1, _⟩ => exact (dot_S1024x1024_S1024x2816_S1024x2816_1_0_0_1_n_n.lhsIdx_val_of_single rfl y _).trans hk
  · refine congrArg W (funext fun a => Fin.ext ?_)
    match a with
    | ⟨0, _⟩ => exact (dot_S1024x1024_S1024x2816_S1024x2816_1_0_0_1_n_n.rhsIdx_val_of_single rfl y _).trans hk
    | ⟨1, _⟩ => exact rhs_col y _

/-- The stored block at an index: the product, scaled by the column's scale. -/
theorem block_apply (X : FVec Ideal S1024x1024 .bf16) (W : FVec Ideal S1024x2816 .bf16) (S : FVec Ideal S1x2816 .f32) (y : S1024x2816.Idx) :
    k0_pay2 (F := Ideal) X W S y = (∑ k : Fin 1024, X (xAt y k) * W (wAt k (y 1))) * S (sAt (y 1)) := by
  have hm := product_apply X W (constant S1024x2816 .f32 0x00000000#32) y
  have hz : (constant S1024x2816 .f32 0x00000000#32 : FVec Ideal S1024x2816 .f32) y = 0 := Ideal.ofBits_zero .f32
  have hs : broadcastTo S1024x2816 S broadcasts_S1x2816_S1024x2816 y = S (sAt (y 1)) :=
    broadcastTo_apply S _ y _ fun a => by
      match a with
      | ⟨0, _⟩ => exact (if_pos rfl).symm
      | ⟨1, _⟩ => exact (if_neg (show ¬ (2816 : ℕ) = 1 by decide)).symm
  rw [hz, zero_add] at hm
  rw [← hm, ← hs]
  unfold k0_pay2
  rw [shapeCast_self, shapeCast_self]
  rfl

variable (m : (ℓ : Loc nD τ sig) → Buf (Elt Ideal) ℓ) (c : Dev nD)

/-- The first window's block moves with the point, and the others stay. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_facts2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_facts4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- Row `r`, column `k` of the whole of `x`, its two leading axes as one. -/
abbrev rowAt (r : Fin 12288) (k : Fin 1024) : S12288x1024.Idx := fun a => match a with
  | ⟨0, _⟩ => ⟨r.val, r.isLt⟩
  | ⟨1, _⟩ => ⟨k.val, k.isLt⟩

/-- The block of `x` point `t` reads is its rows `1024 t` and on. -/
theorem x_block (t : Fin cfg0.N) (y : S1024x2816.Idx) (k : Fin 1024) (h : t.val * 1024 + (y 0).val < 12288) :
    iblk m c 0 t (xAt y k) = V m c main_v7 (rowAt ⟨t.val * 1024 + (y 0).val, h⟩ k) := by
  obtain ⟨e0, e1⟩ := idx_facts0 t
  refine congrArg (V m c main_v7) (funext fun a => Fin.ext ?_)
  match a with
  | ⟨0, _⟩ =>
    show win0_0.index t (0 : Fin 2) * 1024 + 1 * (y 0).val = t.val * 1024 + (y 0).val
    rw [e0, Nat.one_mul]
  | ⟨1, _⟩ =>
    show win0_0.index t (1 : Fin 2) * 1024 + 1 * k.val = k.val
    rw [e1]; omega

/-- Every point reads all the codes. -/
theorem codes_block (t : Fin cfg0.N) : iblk m c 1 t = m ((c : Thread nD τ).loc main_arg1) := by
  obtain ⟨e0, e1⟩ := idx_facts1 t
  refine Eq.trans (funext fun y => ?_) (V_main_arg1 m c)
  refine congrArg (V m c main_arg1) (funext fun a => Fin.ext ?_)
  match a with
  | ⟨0, _⟩ =>
    show win0_1.index t (0 : Fin 2) * 512 + 1 * (y 0).val = (y 0).val
    rw [e0]; omega
  | ⟨1, _⟩ =>
    show win0_1.index t (1 : Fin 2) * 2816 + 1 * (y 1).val = (y 1).val
    rw [e1]; omega

/-- Every point reads all the scales. -/
theorem scale_block (t : Fin cfg0.N) : iblk m c 2 t = V m c main_v8 := by
  obtain ⟨e0, e1⟩ := idx_facts2 t
  funext y
  refine congrArg (V m c main_v8) (funext fun a => Fin.ext ?_)
  match a with
  | ⟨0, _⟩ =>
    show win0_2.index t (0 : Fin 2) * 1 + 1 * (y 0).val = (y 0).val
    rw [e0]; omega
  | ⟨1, _⟩ =>
    show win0_2.index t (1 : Fin 2) * 2816 + 1 * (y 1).val = (y 1).val
    rw [e1]; omega

/-- Every point reads the one level. -/
theorem level_block (t : Fin cfg0.N) : iblk m c 3 t = V m c main_v6 := by
  obtain ⟨e0, e1⟩ := idx_facts3 t
  funext y
  refine congrArg (V m c main_v6) (funext fun a => Fin.ext ?_)
  match a with
  | ⟨0, _⟩ =>
    show win0_3.index t (0 : Fin 2) * 1 + 1 * (y 0).val = (y 0).val
    rw [e0]; omega
  | ⟨1, _⟩ =>
    show win0_3.index t (1 : Fin 2) * 1 + 1 * (y 1).val = (y 1).val
    rw [e1]; omega

/-- The decoded weights of the whole run. -/
abbrev W (m : (ℓ : Loc nD τ sig) → Buf (Elt Ideal) ℓ) (c : Dev nD) : S1024x2816.Idx → EReal :=
  weights ((V m c main_v6 : S1x1.Idx → EReal) oneIdx) (m ((c : Thread nD τ).loc main_arg1))

/-- After every point the scratch holds the decoded weights. -/
theorem scratch_eq : ∀ (n : ℕ) (hn : n < cfg0.N), (outsAt0 m c n hn).2 = W m c
  | 0, hn => by
    rw [outsAt0_A m c ⟨0, hn⟩ (Nat.zero_mod _)]
    dsimp only
    rw [sout_A, codes_block, level_block]
  | n + 1, hn => by
    have hN := lt_of_lt_of_eq hn (show cfg0.N = 12 from N_0)
    rw [outsAt0_B m c ⟨n + 1, hn⟩ (by show ¬(n + 1) % 12 = 0; omega)]
    exact scratch_eq n (Nat.lt_of_succ_lt hn)

/-- Every point stores its rows of `x` times the decoded weights, scaled. -/
theorem stored_eq (t : Fin cfg0.N) :
    (outsAt0 m c t.val t.isLt).1 = k0_pay2 (F := Ideal) (iblk m c 0 t) (W m c) (V m c main_v8) := by
  by_cases h0 : t.val % 12 = 0
  · rw [outsAt0_A m c t h0]
    dsimp only
    rw [out_A, codes_block, level_block, scale_block]
  · rw [outsAt0_B m c t h0]
    dsimp only
    rw [out_B, scratch_eq, scale_block]

end Cert.Proof

end
-- ==== Proof.Result.lean ====
/-
  The kernel's result: what the arguments are when the grid starts, the array the grid leaves, and the result at an index.
-/
module

public import proofs.«01_k».proof.Proof.Block
public import Idealize.ShloMosaic.Lib.Claim

@[expose] public section

set_option maxRecDepth 20000

noncomputable section

namespace Cert.Proof

open Cert.KernelIdeal Cert.KernelIdeal.Gen Cert.KernelIdeal.Facts Idealize.ShloMosaic Idealize.ShloMosaic.TcCoe Idealize.SL.Sem

variable (m : (ℓ : Loc nD τ sig) → Buf (Elt Ideal) ℓ) (c : Dev nD)

/-- `x` with its two leading axes as one. -/
theorem x_entry : V m c main_v7 = shapeCast S12288x1024 (m ((c : Thread nD τ).loc main_arg0)) shapeCasts_S24x512x1024_S12288x1024 := by
  show StableHlo.after _ _ (Proc.devRef .tc main_v7) = _
  simp only [List.flatten_cons, List.flatten_nil, List.append_nil, List.cons_append, List.nil_append, hostOps0, hostOps0_1, hostOps0_2]
  after_results
  rfl

/-- The scales as a row. -/
theorem scale_entry : V m c main_v8 = shapeCast S1x2816 (m ((c : Thread nD τ).loc main_arg2)) shapeCasts_S2816_S1x2816 := by
  show StableHlo.after _ _ (Proc.devRef .tc main_v8) = _
  simp only [List.flatten_cons, List.flatten_nil, List.append_nil, List.cons_append, List.nil_append, hostOps0, hostOps0_1, hostOps0_2]
  after_results
  rfl

/-- The one place of the bias. -/
abbrev biasAt : S1.Idx := fun a => match a with
  | ⟨0, _⟩ => ⟨0, Nat.one_pos⟩

/-- The level is the word the kernel builds from the bias, read as a number. -/
theorem level_entry : (V m c main_v6 : S1x1.Idx → EReal) oneIdx
    = Ideal.ofBits .f32 (IntOp.shli .host (IntOp.addi (IntOp.minsi 128#32 (IntOp.maxsi 4294967169#32
        ((m ((c : Thread nD τ).loc main_arg3) : IVec S1 32) biasAt))) 127#32) 23#32) := by
  have h : V m c main_v6 = shapeCast S1x1 (bitcastToFloat (F := Ideal) .f32 (Host.shli (addi (minsi (broadcastInDim S1 ![] bcast_S_S1 (constantI S_ 32 128#32))
      (maxsi (broadcastInDim S1 ![] bcast_S_S1 (constantI S_ 32 4294967169#32)) (m ((c : Thread nD τ).loc main_arg3) : IVec S1 32)))
      (broadcastInDim S1 ![] bcast_S_S1 (constantI S_ 32 127#32))) (broadcastInDim S1 ![] bcast_S_S1 (constantI S_ 32 23#32)))) shapeCasts_S1_S1x1 := by
    show StableHlo.after _ _ (Proc.devRef .tc main_v6) = _
    simp only [List.flatten_cons, List.flatten_nil, List.append_nil, List.cons_append, List.nil_append, hostOps0, hostOps0_1, hostOps0_2]
    after_results
    rfl
  rw [h, shapeCast_apply _ _ oneIdx biasAt (by rw [Shape.rowMajor_val_one, Shape.rowMajor_val_two]; rfl)]
  rfl

/-- `x`, its two leading axes as one, when the grid starts. -/
abbrev X (m : (ℓ : Loc nD τ sig) → Buf (Elt Ideal) ℓ) (c : Dev nD) : S12288x1024.Idx → EReal := V m c main_v7
/-- The row of scales when the grid starts. -/
abbrev S (m : (ℓ : Loc nD τ sig) → Buf (Elt Ideal) ℓ) (c : Dev nD) : S1x2816.Idx → EReal := V m c main_v8
/-- The level when the grid starts. -/
abbrev L (m : (ℓ : Loc nD τ sig) → Buf (Elt Ideal) ℓ) (c : Dev nD) : S1x1.Idx → EReal := V m c main_v6

/-- The array the grid leaves: every row of `x` times the decoded weights, scaled column by column. -/
def rows : S12288x2816.Idx → EReal := fun i =>
  (∑ k : Fin 1024, X m c (rowAt (i 0) k) * W m c (wAt k (i 1)))
    * S m c (sAt (i 1))

/-- What a point writes back is its block of that array. -/
theorem flushed_eq (t : Fin cfg0.N) :
    (dats m 0 c).flushed 4 t = ((cfg0.win 4).blk t).view.read (Elt Ideal) (rows m c) := by
  show (cfg0.win 4).cut (grid0.coords t) ((dats m 0 c).after 4 t) = _
  rw [after0_4, stored_eq]
  obtain ⟨e0, e1⟩ := idx_facts4 t
  have hN := lt_of_lt_of_eq t.isLt (show cfg0.N = 12 from N_0)
  funext y
  have hy0 : (y 0).val < 1024 := (y 0).isLt
  have hy1 : (y 1).val < 2816 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 2816 + 1 * (y 1).val := rfl
  show k0_pay2 (F := Ideal) (iblk m c 0 t) (W m c) (V m c main_v8) ((cfg0.win 4).xinj (grid0.coords t) y)
    = rows m c (((cfg0.win 4).blk t).view.emb y)
  generalize hj : (cfg0.win 4).xinj (grid0.coords t) y = j
  generalize hi : ((cfg0.win 4).blk t).view.emb y = i at hb0 hb1
  have hj0 : (j 0).val = (y 0).val := by rw [← hj]
  have hj1 : (j 1).val = (y 1).val := by rw [← hj]
  have h1 : (j 1 : Fin 2816) = (i 1 : Fin 2816) := Fin.ext (by rw [hj1, hb1, e1]; omega)
  have hlt : t.val * 1024 + (j 0).val < 12288 := by omega
  have h0 : (⟨t.val * 1024 + (j 0).val, hlt⟩ : Fin 12288) = (i 0 : Fin 12288) := Fin.ext (by
    show t.val * 1024 + (j 0).val = (i 0).val
    rw [hj0, hb0, e0]; omega)
  refine (block_apply (iblk m c 0 t) (W m c) (V m c main_v8) j).trans ?_
  unfold rows
  rw [← h0, ← h1]
  refine congrArg (· * S m c (sAt (j 1))) (Finset.sum_congr rfl fun k _ => ?_)
  exact congrArg (· * W m c (wAt k (j 1))) (x_block m c t j k hlt)

/-- Where a point's block lies. -/
theorem mem_block (t : Fin cfg0.N) (i : S12288x2816.Idx) :
    i ∈ ((cfg0.win 4).blk t).view.set
      ↔ ∀ a : Fin 2, win0_4.index t a * S1024x2816.size a ≤ (i a).val ∧ (i a).val < win0_4.index t a * S1024x2816.size a + S1024x2816.size a := by
  show i ∈ ((View.whole main_v9).slice (win0_4.rect t)).set ↔ _
  rw [View.set_slice_whole, Rect.mem_set_unit]
  exact Iff.rfl

/-- Every point writes its block back. -/
theorem flush_all : ∀ t : Fin cfg0.N, (cfg0.win 4).flush t = true :=
  (by decide +kernel : ∀ t : Fin grid0.N, win0_4.flush t = true)

/-- The blocks cover the array. -/
theorem covered (i : S12288x2816.Idx) : ∃ t : Fin cfg0.N, (cfg0.win 4).flush t = true ∧ i ∈ ((cfg0.win 4).blk t).view.set := by
  have hi0 : (i 0).val < 12288 := (i 0).isLt
  have hi1 : (i 1).val < 2816 := (i 1).isLt
  have ht : (i 0).val / 1024 < cfg0.N := lt_of_lt_of_eq (show (i 0).val / 1024 < 12 by omega) N_0.symm
  refine ⟨⟨(i 0).val / 1024, ht⟩, flush_all _, ?_⟩
  obtain ⟨e0, e1⟩ := idx_facts4 ⟨(i 0).val / 1024, ht⟩
  rw [mem_block]
  intro a
  match a with
  | ⟨0, _⟩ =>
    show win0_4.index _ (0 : Fin 2) * 1024 ≤ (i 0).val ∧ (i 0).val < win0_4.index _ (0 : Fin 2) * 1024 + 1024
    rw [e0]
    dsimp only
    omega
  | ⟨1, _⟩ =>
    show win0_4.index _ (1 : Fin 2) * 2816 ≤ (i 1).val ∧ (i 1).val < win0_4.index _ (1 : Fin 2) * 2816 + 2816
    rw [e1]
    omega

/-- So the grid leaves that array. -/
theorem rows_final : (dats m 0 c).arrAt 4 cfg0.N = rows m c :=
  (dats m 0 c).arrAt_eq_of_cover 4 _ (fun t _ => flushed_eq m c t) (fun i => covered i)

/-- Element `k` of the row of `x` that result `i` takes. -/
abbrev xFull (i : S24x512x2816.Idx) (k : Fin 1024) : S24x512x1024.Idx := fun a => match a with
  | ⟨0, _⟩ => ⟨(i 0).val, (i 0).isLt⟩
  | ⟨1, _⟩ => ⟨(i 1).val, (i 1).isLt⟩
  | ⟨2, _⟩ => ⟨k.val, k.isLt⟩
/-- The scale of column `n`. -/
abbrev nAt (n : Fin 2816) : S2816.Idx := fun a => match a with
  | ⟨0, _⟩ => ⟨n.val, n.isLt⟩

/-- The linear layer: `x` times the decoded weights, scaled column by column. -/
def linear (lvl : EReal) (x : S24x512x1024.Idx → EReal) (codes : IVec S512x2816 8) (scale : S2816.Idx → EReal) : S24x512x2816.Idx → EReal := fun i =>
  (∑ k : Fin 1024, x (xFull i k) * weights lvl codes (wAt k (i 2))) * scale (nAt (i 2))

/-- The row of the array a result lies in. -/
abbrev flat (i : S24x512x2816.Idx) : S12288x2816.Idx := fun a => match a with
  | ⟨0, _⟩ => ⟨(i 0).val * 512 + (i 1).val, by
      have h0 : (i 0).val < 24 := (i 0).isLt; have h1 : (i 1).val < 512 := (i 1).isLt; show _ < 12288; omega⟩
  | ⟨1, _⟩ => ⟨(i 2).val, (i 2).isLt⟩

/-- The array the grid leaves, its rows unfolded, is the linear layer. -/
theorem rows_linear : shapeCast S24x512x2816 (rows m c) shapeCasts_S12288x2816_S24x512x2816
    = linear (L m c oneIdx) (m ((c : Thread nD τ).loc main_arg0)) (m ((c : Thread nD τ).loc main_arg1))
        (m ((c : Thread nD τ).loc main_arg2)) := by
  funext i
  have h0 : (i 0).val < 24 := (i 0).isLt
  have h1 : (i 1).val < 512 := (i 1).isLt
  rw [shapeCast_apply _ _ i (flat i) (by rw [Shape.rowMajor_val_two, Shape.rowMajor_val_three]; rfl)]
  unfold rows linear
  congr 1
  · refine Finset.sum_congr rfl fun k _ => congrArg (· * W m c (wAt k (i 2))) ?_
    refine (congrFun (x_entry m c) _).trans ?_
    exact shapeCast_apply _ _ _ (xFull i k) (by rw [Shape.rowMajor_val_two, Shape.rowMajor_val_three]; rfl)
  · refine (congrFun (scale_entry m c) _).trans ?_
    exact shapeCast_apply _ _ _ (nAt (i 2)) (by
      rw [Shape.rowMajor_val_two, Shape.rowMajor_val_one]
      show (i 2).val = 0 * 2816 + (i 2).val
      omega)

/-- What the last host operation leaves: the array's rows unfolded. -/
theorem result_exit : Pipeline.afterTail₀ cfgs (dats m) 0 (V0 m) [hostOps1] c main_v10
    = shapeCast S24x512x2816 (rows m c) shapeCasts_S12288x2816_S24x512x2816 := by
  unfold Pipeline.afterTail₀
  simp only [List.flatten_cons, List.flatten_nil, List.append_nil]
  after_results
  rw [← rows_final]
  exact congrArg (fun A : S12288x2816.Idx → EReal => shapeCast S24x512x2816 A shapeCasts_S12288x2816_S24x512x2816)
    (Pipeline.withArrays_arr spec0 winFacts0.arr_inj c (V0 m c) (fun w => (dats m 0 c).arrAt w (cfgs 0).N) 4)

/-- The kernel's run: its result is the linear layer at the level the kernel builds, and its arguments are unchanged. -/
theorem kernel_run (ρ : Dev nD → PrngReg) : θ_run defs (onTc (τ := τ) (main (F := Ideal))) ⟨m, fun _ => 0, ρ⟩ fun r => ∀ c : Dev nD,
      r.2.mem ((c : Thread nD τ).loc main_v10)
        = linear (L m c oneIdx) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v10 (Pipeline.mem_restRefs_of main_v10 (by decide) (by decide))).trans ((result_exit m c).trans (rows_linear m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Proof

end
-- ==== Proof.Reference.lean ====
/-
  The reference's result at an index: its decoded weights, and the linear layer they make.
-/
module

public import proofs.«01_k».proof.Proof.Result
public import proofs.«01_k».proof.Proof.Gen.ReferenceIdeal.Read

@[expose] public section

set_option maxRecDepth 20000

noncomputable section

namespace Cert.Proof

open Cert.ReferenceIdeal Cert.ReferenceIdeal.Gen Cert.ReferenceIdeal.Read Idealize.ShloMosaic Idealize.ShloMosaic.TcCoe Idealize.SL.Sem

/-- The reference's choice among zero, abfloat and int4, for a nibble `x` with partner `y`: its weight at level `2 ^ bias`. -/
theorem ref_weight (x y : BitVec 4) (bias : BitVec 32) (hlo : -126 ≤ bias.toInt) (hhi : bias.toInt ≤ 127) :
    Scalar.select (IntOp.cmpi .eq (x.setWidth 32) 8#32) (FloatOps.ofBits (F := Ideal) .f32 0x00000000#32)
      (Scalar.select (IntOp.cmpi .eq (y.setWidth 32) 8#32)
        (FloatOps.mulf (F := Ideal) (φ := .f32) (FloatOps.mulf (F := Ideal) (φ := .f32)
            (FloatOps.sitofp .f32 (IntOp.subi 1#32 (IntOp.muli 2#32 (IntOp.shrsi .host (x.setWidth 32) 3#32))))
            (FloatOps.sitofp .f32 (IntOp.addi 2#32 (IntOp.andi (IntOp.andi (x.setWidth 32) 7#32) 1#32))))
          (FloatOps.hostPowf (F := Ideal) (φ := .f32) (FloatOps.ofBits .f32 0x40000000#32)
            (FloatOps.sitofp .f32 (IntOp.subi (IntOp.addi (IntOp.shrsi .host (IntOp.andi (x.setWidth 32) 7#32) 1#32) bias) 1#32))))
        (FloatOps.sitofp (F := Ideal) .f32 (IntOp.subi (x.setWidth 32)
          (IntOp.muli 16#32 ((IntOp.cmpi .sge (x.setWidth 32) 8#32).setWidth 32)))))
      = weight (((2 : ℝ) ^ bias.toInt : ℝ) : EReal) x y := by
  have hs : ∀ w : BitVec 32, FloatOps.sitofp (F := Ideal) .f32 w = ((w.toInt : ℝ) : EReal) := fun _ => rfl
  simp only [hs, Ideal.mulf_def, Ideal.hostPowf_def, Ideal.ofBits_def]
  rw [ref_abfloat x bias hlo hhi, ref_int4, Ideal.ofBits_zero]
  unfold Scalar.select weight
  exact if_congr (nib_eq_eight32 x) rfl (if_congr (nib_eq_eight32 y) rfl rfl)

/-- The bias the reference reads. -/
theorem bias_at (n : IVec S1 32) (j : S_.Idx) : val_main_v0 (F := Ideal) n j = n biasAt := by
  unfold val_main_v0
  refine shapeCast_apply _ _ j biasAt ?_
  have h2 : (S_.rowMajor j).val < 1 := lt_of_lt_of_eq (S_.rowMajor j).isLt (by decide)
  exact (Shape.rowMajor_val_one _).trans (Nat.lt_one_iff.mp h2).symm

/-- The low nibble of a code. -/
theorem lo_at (codes : IVec S512x2816 8) (i : S512x2816.Idx) : val_main_v3 (F := Ideal) codes i = (nib (codes i) 0).setWidth 32 := by
  rw [val_main_v3_apply, val_main_v1_apply, val_main_v2_apply, val_main_c_apply]
  exact ref_lo _

/-- The high nibble of a code. -/
theorem hi_at (codes : IVec S512x2816 8) (i : S512x2816.Idx) : val_main_v5 (F := Ideal) codes i = (nib (codes i) 1).setWidth 32 := by
  rw [val_main_v5_apply, val_main_v1_apply, val_main_v4_apply, val_main_c_0_apply]
  exact ref_hi _

variable (codes : IVec S512x2816 8) (n : IVec S1 32) (hlo : -126 ≤ (n biasAt).toInt) (hhi : (n biasAt).toInt ≤ 127)
include hlo hhi

/-- The reference's weight of an even row. -/
theorem even_at (i : S512x2816.Idx) : val_main_v80 (F := Ideal) codes n i
    = weight (((2 : ℝ) ^ (n biasAt).toInt : ℝ) : EReal) (nib (codes i) 0) (nib (codes i) 1) := by
  rw [val_main_v80_apply, Ideal.truncf_def]
  simp only [val_main_v44_apply, val_main_v7_apply, val_main_v6_apply, val_main_c_1_apply, val_main_call1_v1_apply, val_main_call1_v0_apply,
    val_main_cst_13_apply, val_main_v43_apply, val_main_v9_apply, val_main_v8_apply, val_main_c_2_apply, val_main_v34_apply, val_main_v24_apply,
    val_main_v18_apply, val_main_v17_apply, val_main_v16_apply, val_main_c_6_apply, val_main_v15_apply, val_main_v14_apply, val_main_c_5_apply,
    val_main_v11_apply, val_main_v10_apply, val_main_c_3_apply, val_main_v23_apply, val_main_v22_apply, val_main_v21_apply, val_main_c_8_apply,
    val_main_v20_apply, val_main_v13_apply, val_main_v12_apply, val_main_c_4_apply, val_main_v19_apply, val_main_c_7_apply, val_main_v33_apply,
    val_main_v31_apply, val_main_cst_apply, val_main_v32_apply, val_main_v30_apply, val_main_v28_apply, val_main_v26_apply, val_main_v25_apply,
    val_main_c_9_apply, val_main_v27_apply, val_main_v29_apply, val_main_c_10_apply, val_main_v42_apply, val_main_v41_apply, val_main_v40_apply,
    val_main_v39_apply, val_main_v38_apply, val_main_c_12_apply, val_main_v37_apply, val_main_v36_apply, val_main_v35_apply, val_main_c_11_apply, lo_at, hi_at, bias_at]
  exact ref_weight _ _ _ hlo hhi

/-- The reference's weight of an odd row. -/
theorem odd_at (i : S512x2816.Idx) : val_main_v81 (F := Ideal) codes n i
    = weight (((2 : ℝ) ^ (n biasAt).toInt : ℝ) : EReal) (nib (codes i) 1) (nib (codes i) 0) := by
  rw [val_main_v81_apply, Ideal.truncf_def]
  simp only [val_main_v79_apply, val_main_v9_apply, val_main_v8_apply, val_main_c_2_apply, val_main_call3_v1_apply, val_main_call3_v0_apply,
    val_main_cst_25_apply, val_main_v78_apply, val_main_v7_apply, val_main_v6_apply, val_main_c_1_apply, val_main_v69_apply, val_main_v59_apply,
    val_main_v53_apply, val_main_v52_apply, val_main_v51_apply, val_main_c_17_apply, val_main_v50_apply, val_main_v49_apply,
    val_main_c_16_apply, val_main_v46_apply, val_main_v45_apply, val_main_c_14_apply, val_main_v58_apply, val_main_v57_apply,
    val_main_v56_apply, val_main_c_19_apply, val_main_v55_apply, val_main_v48_apply, val_main_v47_apply, val_main_c_15_apply,
    val_main_v54_apply, val_main_c_18_apply, val_main_v68_apply, val_main_v66_apply, val_main_cst_22_apply, val_main_v67_apply,
    val_main_v65_apply, val_main_v63_apply, val_main_v61_apply, val_main_v60_apply, val_main_c_20_apply, val_main_v62_apply, val_main_v64_apply,
    val_main_c_21_apply, val_main_v77_apply, val_main_v76_apply, val_main_v75_apply, val_main_v74_apply, val_main_v73_apply,
    val_main_c_24_apply, val_main_v72_apply, val_main_v71_apply, val_main_v70_apply, val_main_c_23_apply, lo_at, hi_at, bias_at]
  exact ref_weight _ _ _ hlo hhi

/-- The reference's weights, its two nibbles' rows interleaved. -/
theorem weights_at (y : S1024x2816.Idx) : val_main_v85 (F := Ideal) codes n y
    = weights (((2 : ℝ) ^ (n biasAt).toInt : ℝ) : EReal) codes y := by
  have h0 : (y 0).val < 1024 := (y 0).isLt
  have h1 : (y 1).val < 2816 := (y 1).isLt
  rw [val_main_v85_apply]
  have e0 : (idx_main_v85 y 0).val = (y 0).val / 2 := by
    show ((y 0).val * 2816 + (y 1).val) / 5632 = (y 0).val / 2
    omega
  have e1 : (idx_main_v85 y 1).val = (y 0).val % 2 := by
    show ((y 0).val * 2816 + (y 1).val) / 2816 % 2 = (y 0).val % 2
    omega
  have e2 : (idx_main_v85 y 2).val = (y 1).val := by
    show ((y 0).val * 2816 + (y 1).val) % 2816 = (y 1).val
    omega
  generalize idx_main_v85 y = j at e0 e1 e2
  let p : S512x1x2816.Idx := fun a => match a with
    | ⟨0, _⟩ => ⟨(y 0).val / 2, by show _ < 512; omega⟩
    | ⟨1, _⟩ => ⟨0, Nat.one_pos⟩
    | ⟨2, _⟩ => ⟨(y 1).val, h1⟩
  have hc : idx_main_v82 p = cIdx y := funext fun a => Fin.ext (match a with
    | ⟨0, _⟩ => rfl
    | ⟨1, _⟩ => rfl)
  have hc' : idx_main_v83 p = cIdx y := funext fun a => Fin.ext (match a with
    | ⟨0, _⟩ => rfl
    | ⟨1, _⟩ => rfl)
  unfold val_main_v84 weights
  rcases Nat.mod_two_eq_zero_or_one (y 0).val with h | h
  · rw [concatenate_pair_apply_left (t := S512x2x2816) (1 : Fin 3) _ _ concatenates_S512x1x2816_S512x1x2816_S512x2x2816_d1 j rfl p (fun b => by
      match b with
      | ⟨0, _⟩ => exact e0.symm
      | ⟨1, _⟩ => exact (e1.trans h).symm
      | ⟨2, _⟩ => exact e2.symm)]
    rw [val_main_v82_apply, hc, even_at codes n hlo hhi, h]
  · rw [concatenate_pair_apply_right (t := S512x2x2816) (1 : Fin 3) _ _ concatenates_S512x1x2816_S512x1x2816_S512x2x2816_d1 j rfl rfl p (fun b hb => by
      match b with
      | ⟨0, _⟩ => exact e0.symm
      | ⟨1, _⟩ => exact absurd rfl hb
      | ⟨2, _⟩ => exact e2.symm) (by
      show 0 + 1 = (j 1).val
      rw [e1, h])]
    rw [val_main_v83_apply, hc', odd_at codes n hlo hhi, h]

/-- The reference's result is the linear layer at level `2 ^ bias`. -/
theorem ref_linear (x : S24x512x1024.Idx → EReal) (scale : S2816.Idx → EReal) : val_main_v90 (F := Ideal) x codes scale n
    = linear (((2 : ℝ) ^ (n biasAt).toInt : ℝ) : EReal) x codes scale := by
  funext i
  rw [val_main_v90_apply, Ideal.truncf_def, val_main_v89_apply, Ideal.mulf_def, val_main_v86_apply, val_main_v88_apply, val_main_v87_apply]
  unfold linear
  congr 1
  · refine Finset.sum_congr rfl fun k _ => ?_
    rw [weights_at codes n hlo hhi]
    congr 1

end Cert.Proof

end
-- ==== Proof.lean ====
/-
  The proof of the claims: the three programs run with their arguments unchanged, the idealized kernel is the kernel's own text,
  and for a bias from -126 to 127 the idealized kernel and the idealized reference end with the same result, the linear layer over
  the decoded weights at level `2 ^ bias`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- What the precondition asks holds: its one shape relation. -/
theorem pre_facts : Cert.Pre_bias_in_range.Facts := ⟨by decide⟩

/-- The two comparisons and their conjunction, as the precondition writes them, bound the bias. -/
theorem range_of_word (b : BitVec 32) (h : IntOp.andi (IntOp.cmpi .sge b 4294967170#32) (IntOp.cmpi .sle b 127#32) = 1#1) :
    -126 ≤ b.toInt ∧ b.toInt ≤ 127 := by
  have hlo : (4294967170#32).toInt = -126 := by decide
  have hhi : (127#32).toInt = 127 := by decide
  have key : ∀ p q : Bool, IntOp.andi (BitVec.ofBool p) (BitVec.ofBool q) = 1#1 → p = true ∧ q = true := by decide
  obtain ⟨h1, h2⟩ := key _ _ h
  rw [BitVec.sle_iff_toInt_le] at h1 h2
  omega

/-- So the precondition bounds the bias. -/
theorem range_of_pre [Cert.Pre_bias_in_range.Facts] (x : FVec Ideal Cert.Pre_bias_in_range.S24x512x1024 .bf16)
    (codes : IVec Cert.Pre_bias_in_range.S512x2816 8) (scale : FVec Ideal Cert.Pre_bias_in_range.S2816 .f32)
    (n : IVec Cert.Pre_bias_in_range.S1 32) (h : Cert.Pre_bias_in_range.fn (F := Ideal) x codes scale n = fun _ => 1#1) :
    -126 ≤ (n biasAt).toInt ∧ (n biasAt).toInt ≤ 127 :=
  range_of_word _ (congrFun h biasAt)

/-- The idealized kernel and the idealized reference end with the same result. -/
theorem algebraic : Cert.algebraic_KernelIdeal_ReferenceIdeal_pre_bias_in_range (hKernelIdeal := Cert.KernelIdeal.Gen.facts)
    (hReferenceIdeal := Cert.ReferenceIdeal.Gen.facts) (hPre_bias_in_range := pre_facts) := by
  intro m g m' g' hpre hagree
  have hr := fun c => @range_of_pre pre_facts _ _ _ _ (hpre c)
  refine ⟨_, kernel_run m g, (θ_run _ _ _).mono (fun r h c => ?_) (Cert.ReferenceIdeal.Value.run (F := Ideal) m' g')⟩
  obtain ⟨h90, h0, h1, h2, h3⟩ := h c
  refine ⟨h90.trans ?_, h0, h1, h2, h3⟩
  rw [Cert.ReferenceIdeal.Read.val_main_v90_eq, (hagree c).1, (hagree c).2.1, (hagree c).2.2.1, (hagree c).2.2.2]
  refine (ref_linear _ _ (hr c).1 (hr c).2 _ _).trans ?_
  rw [← ofBits_level _ (hr c).1 (hr c).2]
  exact congrArg (fun l => linear l _ _ _) (level_entry m c).symm

/-- The idealized reference runs with its arguments unchanged; it has no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- All the claims. -/
theorem claim : Cert.Claim :=
  ⟨Cert.Kernel.Gen.facts, Cert.KernelIdeal.Gen.facts, Cert.ReferenceIdeal.Gen.facts, pre_facts,
    fun m g _ => Cert.Kernel.Gen.frame m g,
    fun m g _ => Cert.KernelIdeal.Gen.frame m g,
    fun m g _ => Cert.KernelIdeal.Gen.frame m g,
    reference_frame,
    fun m g _ => reference_frame m g trivial,
    trivial, algebraic⟩

end Cert.Proof

end
